-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_and_in_table [hPre_real_and_in_table : Cert.Pre_real_and_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_real_and_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_real_and_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_real_and_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_real_and_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_real_and_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_and_in_table [hPre_real_and_in_table : Cert.Pre_real_and_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_and_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_real_and_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_real_and_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_real_and_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_real_and_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_real_and_in_table [hKernelIdeal : Cert.KernelIdeal.Facts] [hPre_real_and_in_table : Cert.Pre_real_and_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_and_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_real_and_in_table [hReferenceIdeal : Cert.ReferenceIdeal.Facts] [hPre_real_and_in_table : Cert.Pre_real_and_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_and_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_real_and_in_table [hKernelIdeal : Cert.KernelIdeal.Facts] [hReferenceIdeal : Cert.ReferenceIdeal.Facts] [hPre_real_and_in_table : Cert.Pre_real_and_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_and_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_real_and_in_table : Cert.Pre_real_and_in_table.Facts),
    quiescent_Kernel (hKernel := hKernel)
    ∧ quiescent_KernelIdeal (hKernelIdeal := hKernelIdeal)
    ∧ quiescent_KernelIdeal_pre_real_and_in_table (hKernelIdeal := hKernelIdeal) (hPre_real_and_in_table := hPre_real_and_in_table)
    ∧ quiescent_ReferenceIdeal (hReferenceIdeal := hReferenceIdeal)
    ∧ quiescent_ReferenceIdeal_pre_real_and_in_table (hReferenceIdeal := hReferenceIdeal) (hPre_real_and_in_table := hPre_real_and_in_table)
    ∧ preserves_Kernel_KernelIdeal
    ∧ algebraic_KernelIdeal_ReferenceIdeal_pre_real_and_in_table (hKernelIdeal := hKernelIdeal) (hReferenceIdeal := hReferenceIdeal) (hPre_real_and_in_table := hPre_real_and_in_table)
-- ==== Pre_real_and_in_table.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  bcast_S_S4096x1024 : S_.BroadcastsInDim S4096x1024 (![] : Fin 0 → Fin S4096x1024.rank)
  bcast_S_S2x1024 : S_.BroadcastsInDim S2x1024 (![] : Fin 0 → Fin S2x1024.rank)
  bcast_S_S4x4096 : S_.BroadcastsInDim S4x4096 (![] : Fin 0 → Fin S4x4096.rank)

variable [Facts]

def fn {F : FTy → Type} [FloatOps F] (main_arg0 : FVec F S4x4096x1024 .f32) (main_arg1 : IVec S4x4096 32) (main_arg2 : FVec F S4096x1024 .f32) (main_arg3 : FVec F S2x1024 .f32) (main_arg4 : FVec F S1024 .f32) (main_arg5 : FVec F S1024 .f32) : IVec S4x4096x1024 1 × IVec S4096x1024 1 × IVec S2x1024 1 × IVec S4x4096 1 × IVec S4x4096 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S2x1024 .f32 := Host.absf main_arg3
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_c : IVec S_ 32 := constantI S_ 32 0#32
  let main_v9 : IVec S4x4096 32 := broadcastInDim S4x4096 ![] bcast_S_S4x4096 main_c
  let main_v10 : IVec S4x4096 1 := cmpi .sge main_arg1 main_v9
  let main_c_2 : IVec S_ 32 := constantI S_ 32 1#32
  let main_v11 : IVec S4x4096 32 := broadcastInDim S4x4096 ![] bcast_S_S4x4096 main_c_2
  let main_v12 : IVec S4x4096 1 := cmpi .sle main_arg1 main_v11
  (main_v2, main_v5, main_v8, main_v10, main_v12)
-- ==== Kernel.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S4x4096x1 : Shape := ⟨3, ![4, 4096, 1]⟩
abbrev S1x1024 : Shape := ⟨2, ![1, 1024]⟩
abbrev S1x2048x1024 : Shape := ⟨3, ![1, 2048, 1024]⟩
abbrev S1x2048x1 : Shape := ⟨3, ![1, 2048, 1]⟩
abbrev S2048x1024 : Shape := ⟨2, ![2048, 1024]⟩
abbrev S2048x1 : Shape := ⟨2, ![2048, 1]⟩
abbrev S2048 : Shape := ⟨1, ![2048]⟩

abbrev nBuf : Space → Nat
  | .hbm => 10
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S4096x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S4x4096x1, .i32⟩
  | .hbm, ⟨7, _⟩ => ⟨S1x1024, .f32⟩
  | .hbm, ⟨8, _⟩ => ⟨S1x1024, .f32⟩
  | .hbm, ⟨9, _⟩ => ⟨S4x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x1, .i32⟩
  | .local _ .vmem, ⟨3, _⟩ => ⟨S1x2048x1, .i32⟩
  | .local _ .vmem, ⟨4, _⟩ => ⟨S2048x1024, .f32⟩
  | .local _ .vmem, ⟨5, _⟩ => ⟨S2048x1024, .f32⟩
  | .local _ .vmem, ⟨6, _⟩ => ⟨S2x1024, .f32⟩
  | .local _ .vmem, ⟨7, _⟩ => ⟨S1x1024, .f32⟩
  | .local _ .vmem, ⟨8, _⟩ => ⟨S1x1024, .f32⟩
  | .local _ .vmem, ⟨9, _⟩ => ⟨S1x2048x1024, .f32⟩
  | .local _ .vmem, ⟨10, _⟩ => ⟨S1x2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S4096 : Shape := ⟨1, ![4096]⟩
abbrev S1x4096 : Shape := ⟨2, ![1, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S4096x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S4096, .i32⟩
  | .hbm, ⟨7, _⟩ => ⟨S1x4096, .i32⟩
  | .hbm, ⟨8, _⟩ => ⟨S4x4096, .i32⟩
  | .hbm, ⟨9, _⟩ => ⟨S_, .i32⟩
  | .hbm, ⟨10, _⟩ => ⟨S4x4096, .i32⟩
  | .hbm, ⟨11, _⟩ => ⟨S4x4096, .i1⟩
  | .hbm, ⟨12, _⟩ => ⟨S_, .i32⟩
  | .hbm, ⟨13, _⟩ => ⟨S4x4096, .i32⟩
  | .hbm, ⟨14, _⟩ => ⟨S4x4096, .i32⟩
  | .hbm, ⟨15, _⟩ => ⟨S4x4096, .i32⟩
  | .hbm, ⟨16, _⟩ => ⟨S4x4096x1, .i32⟩
  | .hbm, ⟨17, _⟩ => ⟨S1, .i32⟩
  | .hbm, ⟨18, _⟩ => ⟨S_, .i32⟩
  | .hbm, ⟨19, _⟩ => ⟨S4x4096x1, .i32⟩
  | .hbm, ⟨20, _⟩ => ⟨S4x4096x1, .i1⟩
  | .hbm, ⟨21, _⟩ => ⟨S1x1x1, .i32⟩
  | .hbm, ⟨22, _⟩ => ⟨S4x4096x1, .i32⟩
  | .hbm, ⟨23, _⟩ => ⟨S4x4096x1, .i1⟩
  | .hbm, ⟨24, _⟩ => ⟨S4x4096x1, .i1⟩
  | .hbm, ⟨25, _⟩ => ⟨S_, .i1⟩
  | .hbm, ⟨26, _⟩ => ⟨S4x4096, .i1⟩
  | .hbm, ⟨27, _⟩ => ⟨S4x4096x1024, .f32⟩
  | .hbm, ⟨28, _⟩ => ⟨S4x4096x1024, .i1⟩
  | .hbm, ⟨29, _⟩ => ⟨S_, .f32⟩
  | .hbm, ⟨30, _⟩ => ⟨S4x4096x1024, .f32⟩
  | .hbm, ⟨31, _⟩ => ⟨S4x4096x1024, .f32⟩
  | .hbm, ⟨32, _⟩ => ⟨S_, .i32⟩
  | .hbm, ⟨33, _⟩ => ⟨S4x4096, .i32⟩
  | .hbm, ⟨34, _⟩ => ⟨S4x4096, .i1⟩
  | .hbm, ⟨35, _⟩ => ⟨S_, .i32⟩
  | .hbm, ⟨36, _⟩ => ⟨S4x4096, .i32⟩
  | .hbm, ⟨37, _⟩ => ⟨S4x4096, .i32⟩
  | .hbm, ⟨38, _⟩ => ⟨S4x4096, .i32⟩
  | .hbm, ⟨39, _⟩ => ⟨S4x4096x1, .i32⟩
  | .hbm, ⟨40, _⟩ => ⟨S1, .i32⟩
  | .hbm, ⟨41, _⟩ => ⟨S_, .i32⟩
  | .hbm, ⟨42, _⟩ => ⟨S4x4096x1, .i32⟩
  | .hbm, ⟨43, _⟩ => ⟨S4x4096x1, .i1⟩
  | .hbm, ⟨44, _⟩ => ⟨S1x1x1, .i32⟩
  | .hbm, ⟨45, _⟩ => ⟨S4x4096x1, .i32⟩
  | .hbm, ⟨46, _⟩ => ⟨S4x4096x1, .i1⟩
  | .hbm, ⟨47, _⟩ => ⟨S4x4096x1, .i1⟩
  | .hbm, ⟨48, _⟩ => ⟨S_, .i1⟩
  | .hbm, ⟨49, _⟩ => ⟨S4x4096, .i1⟩
  | .hbm, ⟨50, _⟩ => ⟨S4x4096x1024, .f32⟩
  | .hbm, ⟨51, _⟩ => ⟨S4x4096x1024, .i1⟩
  | .hbm, ⟨52, _⟩ => ⟨S_, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S_, .i32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4x4096, .f32⟩
  | .hbm, ⟨78, _⟩ => ⟨S4x4096x1, .f32⟩
  | .hbm, ⟨79, _⟩ => ⟨S4x4096x1, .f32⟩
  | .hbm, ⟨80, _⟩ => ⟨S4x4096x1, .f32⟩
  | .hbm, ⟨81, _⟩ => ⟨S_, .f32⟩
  | .hbm, ⟨82, _⟩ => ⟨S_, .i1⟩
  | .hbm, ⟨83, _⟩ => ⟨S_, .f32⟩
  | .hbm, ⟨84, _⟩ => ⟨S_, .f32⟩
  | .hbm, ⟨85, _⟩ => ⟨S4x4096x1, .f32⟩
  | .hbm, ⟨86, _⟩ => ⟨S4x4096x1, .f32⟩
  | .hbm, ⟨87, _⟩ => ⟨S4x4096x1024, .f32⟩
  | .hbm, ⟨88, _⟩ => ⟨S4x4096x1024, .f32⟩
  | .hbm, ⟨89, _⟩ => ⟨S_, .f32⟩
  | .hbm, ⟨90, _⟩ => ⟨S4x4096x1, .f32⟩
  | .hbm, ⟨91, _⟩ => ⟨S4x4096x1, .f32⟩
  | .hbm, ⟨92, _⟩ => ⟨S4x4096x1, .f32⟩
  | .hbm, ⟨93, _⟩ => ⟨S4x4096x1024, .f32⟩
  | .hbm, ⟨94, _⟩ => ⟨S4x4096x1024, .f32⟩
  | .hbm, ⟨95, _⟩ => ⟨S1x1x1024, .f32⟩
  | .hbm, ⟨96, _⟩ => ⟨S4x4096x1024, .f32⟩
  | .hbm, ⟨97, _⟩ => ⟨S4x4096x1024, .f32⟩
  | .hbm, ⟨98, _⟩ => ⟨S1x1x1024, .f32⟩
  | .hbm, ⟨99, _⟩ => ⟨S4x4096x1024, .f32⟩
  | .hbm, ⟨100, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_cst : Ref sig .tc := ⟨.hbm, 57, rfl⟩
abbrev main_v7 : Ref sig .tc := ⟨.hbm, 58, rfl⟩
abbrev main_v8 : Ref sig .tc := ⟨.hbm, 59, rfl⟩
abbrev main_cst_0 : Ref sig .tc := ⟨.hbm, 60, rfl⟩
abbrev main_v9 : Ref sig .tc := ⟨.hbm, 61, rfl⟩
abbrev main_v10 : Ref sig .tc := ⟨.hbm, 62, rfl⟩
abbrev main_c : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_cst_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_cst_1 : Ref sig .tc := ⟨.hbm, 74, rfl⟩
abbrev main_call2_v8 : Ref sig .tc := ⟨.hbm, 75, rfl⟩
abbrev main_call2_cst_2 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_cst_3 : Ref sig .tc := ⟨.hbm, 81, rfl⟩
abbrev main_call2_v13 : Ref sig .tc := ⟨.hbm, 82, rfl⟩
abbrev main_call2_cst_4 : Ref sig .tc := ⟨.hbm, 83, rfl⟩
abbrev main_call2_call0_v0 : Ref sig .tc := ⟨.hbm, 84, rfl⟩
abbrev main_call2_call0_v1 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_cst_1 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩

abbrev nD : Nat := 1
abbrev τ : Topo := Topo.v7x

variable {F : FTy → Type} [FloatOps F]
-- ==== Proof.Algebra.lean ====
/-
  LAYER NORMALISATION OF ONE ROW, in two forms, over the extended reals.

  The kernel makes one pass: it sums the row and the row's squares, takes the variance as the mean square less the
  square of the mean, and multiplies by a reciprocal square root. The reference makes two passes: it averages the
  squared distances from the mean, and divides by a square root. On a row of real numbers the two agree
  (`onePass_eq_twoPass_of_real`): the two variances are the same real number, it is not negative, and the small constant
  added to it is positive, so the square root is of a positive number.
-/
module

public import Idealize.ShloMosaic.PureOps.Ideal
public import Idealize.ShloMosaic.PureOps.Ideal.Laws
public import Idealize.ShloMosaic.Lib.IdealHost
public import Mathlib.Algebra.BigOperators.Field

@[expose] public section

noncomputable section

namespace Cert.LayerNorm

open Idealize.ShloMosaic

/-- The factor by which the kernel turns a row's sum into its mean: `1/1024`, as a 32-bit pattern. -/
abbrev share : EReal := Ideal.ofBits .f32 0x3A800000#32
/-- The row's length, by which the reference divides: `1024`, as a 32-bit pattern. -/
abbrev length : EReal := Ideal.ofBits .f32 0x44800000#32
/-- The constant both add to the variance: the 32-bit float nearest `1e-5`. -/
abbrev eps : EReal := Ideal.ofBits .f32 0x3727C5AC#32

/-! ## The two forms -/

/-- The row's mean as the kernel takes it: the sum times `1/1024`. -/
def mulMean (e : Fin 1024 → EReal) : EReal := (∑ k, e k) * share

/-- The row's variance as the kernel takes it: the mean square less the square of the mean. -/
def onePassVar (e : Fin 1024 → EReal) : EReal := (∑ k, e k * e k) * share - mulMean e * mulMean e

/-- The normalised row as the kernel takes it, at column `j`. -/
def onePass (e : Fin 1024 → EReal) (j : Fin 1024) : EReal :=
  (e j - mulMean e) * Ideal.rsqrt (onePassVar e + eps)

/-- The row's mean as the reference takes it: the sum divided by `1024`. -/
def divMean (e : Fin 1024 → EReal) : EReal := Ideal.div (∑ k, e k) length

/-- The row's variance as the reference takes it: the mean of the squared distances from the mean. -/
def twoPassVar (e : Fin 1024 → EReal) : EReal :=
  Ideal.div (∑ k, (e k - divMean e) * (e k - divMean e)) length

/-- The normalised row as the reference takes it, at column `j`. -/
def twoPass (e : Fin 1024 → EReal) (j : Fin 1024) : EReal :=
  Ideal.div (e j - divMean e) (Ideal.sqrt (twoPassVar e + eps))

/-! ## The constants as real numbers -/

/-- `0x3A800000` denotes `1/1024`. -/
theorem share_eq : share = ((1 / 1024 : ℝ) : EReal) := by
  simp [share, Ideal.ofBits, Ideal.ieee, -EReal.coe_mul]; norm_num

/-- `0x44800000` denotes `1024`. -/
theorem length_eq : length = ((1024 : ℝ) : EReal) := by
  simp [length, Ideal.ofBits, Ideal.ieee, -EReal.coe_mul]; norm_num

/-- `0x3727C5AC` denotes a positive real number. -/
theorem eps_pos : ∃ ε : ℝ, 0 < ε ∧ eps = (ε : EReal) := by
  refine ⟨10995116 * (2 : ℝ) ^ (-40 : ℤ), by positivity, ?_⟩
  simp [eps, Ideal.ofBits, Ideal.ieee, -EReal.coe_mul]

/-! ## Real arithmetic -/

/-- A finite sum of real numbers, taken over the extended reals, is the real sum. -/
theorem sum_coe (f : Fin 1024 → ℝ) : ∑ k, (f k : EReal) = ((∑ k, f k : ℝ) : EReal) := by
  induction (Finset.univ : Finset (Fin 1024)) using Finset.induction_on with
  | empty => simp
  | insert a s ha ih => rw [Finset.sum_insert ha, Finset.sum_insert ha, ih, EReal.coe_add]

/-- The mean of the squared distances from the mean is the mean square less the square of the mean. -/
theorem real_variance (f : Fin 1024 → ℝ) :
    (∑ k, (f k - (∑ i, f i) * (1 / 1024)) * (f k - (∑ i, f i) * (1 / 1024))) * (1 / 1024)
      = (∑ k, f k * f k) * (1 / 1024) - (∑ i, f i) * (1 / 1024) * ((∑ i, f i) * (1 / 1024)) := by
  generalize hμ : (∑ i, f i) * (1 / 1024 : ℝ) = μ
  have hS : (∑ i, f i) = 1024 * μ := by rw [← hμ]; ring
  have expand : ∀ k, (f k - μ) * (f k - μ) = f k * f k - 2 * μ * f k + μ * μ := fun k => by ring
  simp only [expand, Finset.sum_add_distrib, Finset.sum_sub_distrib, ← Finset.mul_sum, Finset.sum_const,
    Finset.card_univ, Fintype.card_fin, hS, nsmul_eq_mul]
  push_cast
  ring

/-- That variance is not negative. -/
theorem real_variance_nonneg (f : Fin 1024 → ℝ) :
    0 ≤ (∑ k, f k * f k) * (1 / 1024) - (∑ i, f i) * (1 / 1024) * ((∑ i, f i) * (1 / 1024)) := by
  rw [← real_variance]
  exact mul_nonneg (Finset.sum_nonneg fun k _ => mul_self_nonneg _) (by norm_num)

/-- Division of a real number by `1024`. -/
theorem div_length (a : ℝ) : Ideal.div (a : EReal) length = ((a * (1 / 1024) : ℝ) : EReal) := by
  have h : ((1024 : ℝ) : EReal) ≠ 0 := by exact_mod_cast (by norm_num : (1024 : ℝ) ≠ 0)
  rw [length_eq, Ideal.div, if_neg h, ← EReal.coe_inv, ← EReal.coe_mul]
  norm_num

/-- Division by the square root of a positive real number is multiplication by its reciprocal square root. -/
theorem div_sqrt_eq_mul_rsqrt (x : EReal) {v : ℝ} (hv : 0 < v) :
    Ideal.div x (Ideal.sqrt (v : EReal)) = x * Ideal.rsqrt (v : EReal) := by
  have hs : ((Real.sqrt v : ℝ) : EReal) ≠ 0 := by exact_mod_cast (Real.sqrt_pos.mpr hv).ne'
  rw [Ideal.sqrt_coe, Ideal.rsqrt_coe, if_neg hv.le.not_gt, if_neg hv.le.not_gt, if_neg hv.ne', Ideal.div, if_neg hs,
    EReal.coe_inv]

/-! ## The two forms agree on real rows -/

section Row
variable (f : Fin 1024 → ℝ)

/-- The kernel's mean of a real row. -/
theorem mulMean_coe : mulMean (fun k => (f k : EReal)) = (((∑ i, f i) * (1 / 1024) : ℝ) : EReal) := by
  rw [mulMean, sum_coe, share_eq, ← EReal.coe_mul]

/-- The reference's mean of a real row is the same number. -/
theorem divMean_coe : divMean (fun k => (f k : EReal)) = (((∑ i, f i) * (1 / 1024) : ℝ) : EReal) := by
  rw [divMean, sum_coe, div_length]

/-- The kernel's variance of a real row. -/
theorem onePassVar_coe : onePassVar (fun k => (f k : EReal))
    = (((∑ k, f k * f k) * (1 / 1024) - (∑ i, f i) * (1 / 1024) * ((∑ i, f i) * (1 / 1024)) : ℝ) : EReal) := by
  rw [onePassVar, mulMean_coe, share_eq]
  simp only [← EReal.coe_mul]
  rw [sum_coe fun k => f k * f k, ← EReal.coe_mul, ← EReal.coe_sub]

/-- The reference's variance of a real row is the same number. -/
theorem twoPassVar_coe : twoPassVar (fun k => (f k : EReal))
    = (((∑ k, f k * f k) * (1 / 1024) - (∑ i, f i) * (1 / 1024) * ((∑ i, f i) * (1 / 1024)) : ℝ) : EReal) := by
  rw [twoPassVar, divMean_coe]
  simp only [← EReal.coe_sub, ← EReal.coe_mul]
  rw [sum_coe fun k => (f k - (∑ i, f i) * (1 / 1024)) * (f k - (∑ i, f i) * (1 / 1024)), div_length, real_variance]

/-- On a row of real numbers the kernel's normalised row is the reference's. -/
theorem onePass_eq_twoPass (j : Fin 1024) :
    onePass (fun k => (f k : EReal)) j = twoPass (fun k => (f k : EReal)) j := by
  obtain ⟨ε, hε, he⟩ := eps_pos
  rw [onePass, twoPass, mulMean_coe, divMean_coe, onePassVar_coe, twoPassVar_coe, he, ← EReal.coe_add,
    div_sqrt_eq_mul_rsqrt _ (add_pos_of_nonneg_of_pos (real_variance_nonneg f) hε)]

end Row

/-- The same, of a row each of whose entries is known to be a real number. -/
theorem onePass_eq_twoPass_of_real {e : Fin 1024 → EReal} (h : ∀ k, ∃ r : ℝ, e k = (r : EReal)) (j : Fin 1024) :
    onePass e j = twoPass e j := by
  choose f hf using h
  obtain rfl : e = fun k => (f k : EReal) := funext hf
  exact onePass_eq_twoPass f j

end Cert.LayerNorm

end
-- ==== Proof.KernelRow.lean ====
/-
  WHAT THE KERNEL'S BODY STORES, read at an index: at row `r` and column `l` of a block, the row's layer normalisation
  in one pass (`LayerNorm.onePass`), times the scale and plus the shift at column `l`. The row is the token's entries
  plus its position's plus those of its segment, picked by comparing the segment number with zero.
-/
module

public import proofs.«01_k».proof.Proof.Algebra
public import proofs.«01_k».proof.Proof.Gen.KernelIdeal.Skeleton
public import Idealize.ShloMosaic.Lib.Pointwise

@[expose] public section

noncomputable section

namespace Cert.LayerNorm

open Cert.KernelIdeal Cert.KernelIdeal.Gen Idealize.ShloMosaic

/-- Row `r` of a block before it is normalised: token, position and segment entries added. -/
def blockRow (x : Vec Ideal S1x2048x1024 .f32) (mask : Vec Ideal S1x2048x1 .i32) (seg1 seg0 : Vec Ideal S1x1024 .f32)
    (pos : Vec Ideal S2048x1024 .f32) (r : Fin 2048) (k : Fin 1024) : EReal :=
  x (ix3 0 r k) + pos (ix2 r k)
    + Scalar.select (IntOp.cmpi .ne (mask (ix3 0 r 0)) 0#32) (seg1 (ix2 0 k)) (seg0 (ix2 0 k))

/-- The stored block at row `r`, column `l`. -/
theorem stored_apply (x : Vec Ideal S1x2048x1024 .f32) (mask : Vec Ideal S1x2048x1 .i32) (seg1 seg0 : Vec Ideal S1x1024 .f32)
    (pos : Vec Ideal S2048x1024 .f32) (gamma beta : Vec Ideal S1x1024 .f32) (b : Fin 1) (r : Fin 2048) (l : Fin 1024) :
    k0_pay1 (k0_pay2 x mask seg1 seg0 pos) (k0_pay3 gamma) beta (ix3 b r l)
      = onePass (blockRow x mask seg1 seg0 pos r) l * gamma (ix2 0 l) + beta (ix2 0 l) := by
  unfold_payloads
  pointwise
  rfl

end Cert.LayerNorm

end
-- ==== Proof.KernelArray.lean ====
/-
  THE KERNEL'S RESULT ARRAY, index by index. Every grid point writes one block of one array `kernelArray`: the block at
  point (n, b) holds rows 2048 n to 2048 n + 2047 of batch member b. The blocks tile the array, so the array ends
  holding `kernelArray` everywhere.
-/
module

public import proofs.«01_k».proof.Proof.KernelRow
public import proofs.«01_k».proof.Proof.Gen.KernelIdeal.Value
public import Idealize.ShloMosaic.Lib.Pipeline.ValueKit
public import Idealize.ShloMosaic.Lib.Claim

@[expose] public section

set_option maxRecDepth 16384

noncomputable section

namespace Cert.LayerNorm

open Cert.KernelIdeal Cert.KernelIdeal.Gen Idealize.ShloMosaic Idealize.ShloMosaic.TcCoe Idealize.SL.Sem
open Idealize.ShloMosaic.Pipeline (Dat)

/-- The row to be normalised, of batch member `b` at position `s`: token, position and segment entries added, the
    segment's row picked by comparing the segment number with zero. -/
def embedded (x : Vec Ideal S4x4096x1024 .f32) (mask : Vec Ideal S4x4096 .i32) (pos : Vec Ideal S4096x1024 .f32)
    (seg : Vec Ideal S2x1024 .f32) (b : Fin 4) (s : Fin 4096) (k : Fin 1024) : EReal :=
  x (ix3 b s k) + pos (ix2 s k)
    + Scalar.select (IntOp.cmpi .ne (mask (ix2 b s)) 0#32) (seg (ix2 1 k)) (seg (ix2 0 k))

variable (m : (ℓ : Loc nD τ sig) → Buf (Elt Ideal) ℓ)

/-- The array the kernel leaves: each row normalised in one pass, scaled and shifted. -/
def kernelArray (c : Dev nD) : Buf (Elt Ideal) ((c : Thread nD τ).loc main_v3) :=
  fun i : S4x4096x1024.Idx =>
    onePass (embedded (m ((c : Thread nD τ).loc main_arg0)) (m ((c : Thread nD τ).loc main_arg1))
        (m ((c : Thread nD τ).loc main_arg2)) (m ((c : Thread nD τ).loc main_arg3)) (i 0) (i 1)) (i 2)
      * m ((c : Thread nD τ).loc main_arg4) (ix1 (i 2)) + m ((c : Thread nD τ).loc main_arg5) (ix1 (i 2))

/-- Where each window's block lies: batch member and row range move with the result's block, the tables stay. -/
theorem block_places : ∀ t : Fin cfg0.N,
    win0_0.index t = ![win0_6.index t 0, win0_6.index t 1, 0] ∧ win0_1.index t = ![win0_6.index t 0, win0_6.index t 1, 0]
      ∧ win0_2.index t = ![win0_6.index t 1, 0] ∧ win0_3.index t = ![0, 0] ∧ win0_4.index t = ![0, 0]
      ∧ win0_5.index t = ![0, 0] ∧ win0_6.index t 2 = 0 ∧ win0_6.index t 0 < 4 ∧ win0_6.index t 1 < 2 :=
  (by decide +kernel : ∀ t : Fin grid0.N,
    win0_0.index t = ![win0_6.index t 0, win0_6.index t 1, 0] ∧ win0_1.index t = ![win0_6.index t 0, win0_6.index t 1, 0]
      ∧ win0_2.index t = ![win0_6.index t 1, 0] ∧ win0_3.index t = ![0, 0] ∧ win0_4.index t = ![0, 0]
      ∧ win0_5.index t = ![0, 0] ∧ win0_6.index t 2 = 0 ∧ win0_6.index t 0 < 4 ∧ win0_6.index t 1 < 2)

/-- The batch member of the block at point `t`. -/
def member (t : Fin cfg0.N) : Fin 4 := ⟨win0_6.index t 0, (block_places t).2.2.2.2.2.2.2.1⟩

/-- The position of row `r` of the block at point `t`. -/
def position (t : Fin cfg0.N) (r : Fin 2048) : Fin 4096 :=
  ⟨win0_6.index t 1 * 2048 + r.val, by have := (block_places t).2.2.2.2.2.2.2.2; omega⟩

/-! ## The blocks the body reads, as entries of the arguments -/

/-- The token block at point `t` holds, in its row `r`, the token row of the batch member at the position of row `r`. -/
theorem read_x (c : Dev nD) (t : Fin cfg0.N) (b : Fin 1) (r : Fin 2048) (k : Fin 1024) :
    iblk m c 0 t (ix3 b r k) = m ((c : Thread nD τ).loc main_arg0) (ix3 (member t) (position t r) k) := by
  have h := (block_places t).1
  blk_ext [iblk, V_main_arg0, h, member, position]

/-- The segment-number block at point `t` holds, in its row `r`, the segment number of the batch member at that position. -/
theorem read_mask (c : Dev nD) (t : Fin cfg0.N) (b : Fin 1) (r : Fin 2048) :
    iblk m c 1 t (ix3 b r 0) = m ((c : Thread nD τ).loc main_arg1) (ix2 (member t) (position t r)) := by
  have h := (block_places t).2.1
  blk_simp [iblk]
  entry_read
  pointwise
  blk_ext [h, member, position]

/-- The position block at point `t` holds, in its row `r`, the position table's row of that position. -/
theorem read_pos (c : Dev nD) (t : Fin cfg0.N) (r : Fin 2048) (k : Fin 1024) :
    iblk m c 2 t (ix2 r k) = m ((c : Thread nD τ).loc main_arg2) (ix2 (position t r) k) := by
  have h := (block_places t).2.2.1
  blk_ext [iblk, V_main_arg2, h, position]

/-- The second row the body loads of the segment table is row 1. -/
theorem read_seg1 (c : Dev nD) (t : Fin cfg0.N) (k : Fin 1024) :
    View.ld (iblk m c 3 t) r0_2 (ix2 0 k) = m ((c : Thread nD τ).loc main_arg3) (ix2 1 k) := by
  have h := (block_places t).2.2.2.1
  pointwise
  blk_ext [iblk, V_main_arg3, h]

/-- The first row the body loads of the segment table is row 0. -/
theorem read_seg0 (c : Dev nD) (t : Fin cfg0.N) (k : Fin 1024) :
    View.ld (iblk m c 3 t) r0_3 (ix2 0 k) = m ((c : Thread nD τ).loc main_arg3) (ix2 0 k) := by
  have h := (block_places t).2.2.2.1
  pointwise
  blk_ext [iblk, V_main_arg3, h]

/-- The block of scales is the whole array of scales, at every point. -/
theorem read_gamma (c : Dev nD) (t : Fin cfg0.N) (k : Fin 1024) :
    iblk m c 4 t (ix2 0 k) = m ((c : Thread nD τ).loc main_arg4) (ix1 k) := by
  have h := (block_places t).2.2.2.2.1
  blk_simp [iblk]
  entry_read
  pointwise
  blk_ext [h]

/-- The block of shifts is the whole array of shifts, at every point. -/
theorem read_beta (c : Dev nD) (t : Fin cfg0.N) (k : Fin 1024) :
    iblk m c 5 t (ix2 0 k) = m ((c : Thread nD τ).loc main_arg5) (ix1 k) := by
  have h := (block_places t).2.2.2.2.2.1
  blk_simp [iblk]
  entry_read
  pointwise
  blk_ext [h]

/-- Where row `r`, column `l` of the result's block at point `t` lies in the result. -/
theorem placed (t : Fin cfg0.N) (b : Fin 1) (r : Fin 2048) (l : Fin 1024) :
    ((View.whole main_v3).slice (win0_6.rect t)).emb (ix3 b r l) = ix3 (member t) (position t r) l := by
  have h := (block_places t).2.2.2.2.2.2.1
  blk_ext [h, member, position]

/-- The row the body normalises is the row of the arguments at the block's batch member and position. -/
theorem blockRow_eq (c : Dev nD) (t : Fin cfg0.N) (r : Fin 2048) :
    blockRow (iblk m c 0 t) (iblk m c 1 t) (View.ld (iblk m c 3 t) r0_2) (View.ld (iblk m c 3 t) r0_3) (iblk m c 2 t) r
      = embedded (m ((c : Thread nD τ).loc main_arg0)) (m ((c : Thread nD τ).loc main_arg1))
          (m ((c : Thread nD τ).loc main_arg2)) (m ((c : Thread nD τ).loc main_arg3)) (member t) (position t r) := by
  funext k
  rw [blockRow, embedded, read_x, read_mask, read_pos, read_seg1, read_seg0]

/-- What the body stores at point `t`, row `r`, column `l`, is `kernelArray` at that place of the array. -/
theorem stored_eq (c : Dev nD) (t : Fin cfg0.N) (b : Fin 1) (r : Fin 2048) (l : Fin 1024) :
    k0_pay1 (k0_pay2 (iblk m c 0 t) (iblk m c 1 t) (View.ld (iblk m c 3 t) r0_2) (View.ld (iblk m c 3 t) r0_3) (iblk m c 2 t))
        (k0_pay3 (iblk m c 4 t)) (iblk m c 5 t) (ix3 b r l)
      = kernelArray m c (ix3 (member t) (position t r) l) := by
  refine (stored_apply _ _ _ _ _ _ _ b r l).trans ?_
  rw [blockRow_eq m c t r]
  exact congrArg₂ (· + ·) (congrArg _ (read_gamma m c t l)) (read_beta m c t l)

/-- The result array after the run is `kernelArray`. -/
theorem final (c : Dev nD) : (dats m 0 c).arrAt 6 cfg0.N = kernelArray m c := by
  refine (dats m 0 c).arrAt_eq_of_covers 6 _ (by decide +kernel) fun t hf y => ?_
  blk_simp
  rw [after0_6]
  frame_out
  obtain ⟨b, r, l, rfl⟩ : ∃ (b : Fin 1) (r : Fin 2048) (l : Fin 1024), y = ix3 b r l := ⟨y 0, y 1, y 2, eq_ix3 y⟩
  exact (stored_eq m c t b r l).trans (congrArg (kernelArray m c) (placed t b r l)).symm

/-- The kernel's run: its result array ends holding `kernelArray`, its arguments as they were. -/
theorem kernel_run (ρ : Dev nD → PrngReg) : θ_run defs (onTc (τ := τ) (main (F := Ideal))) ⟨m, fun _ => 0, ρ⟩ fun r => ∀ c : Dev nD,
      r.2.mem ((c : Thread nD τ).loc main_v3) = kernelArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.LayerNorm

end
-- ==== Proof.Lookup.lean ====
/-
  TABLE LOOKUPS OF THE REFERENCE. A lookup of whole rows wraps negative row numbers round once, gathers the rows, and
  fills the rows whose number is out of range with a fixed value. Where every row number lies in the table, the lookup
  is just the row of that number.
-/
module

public import proofs.«01_k».proof.Proof.Gen.ReferenceIdeal
public import Idealize.ShloMosaic.Lib.Pointwise
public import Idealize.ShloMosaic.Lib.ReduceAll

@[expose] public section

set_option maxRecDepth 16384

noncomputable section

namespace Cert.LayerNorm

open Cert.ReferenceIdeal Cert.ReferenceIdeal.Gen Cert.ReferenceIdeal.Facts Idealize.ShloMosaic

/-- The dimension numbers of a lookup of rows of length 1024 in a table of `N` rows, one row for each of 4 × 4096 places. -/
abbrev rowLookup (N : Nat) (wf : GatherDims.WF ⟨2, ![N, 1024]⟩ S4x4096x1 S4x4096x1024 [2] [0] [] [0] [] 2 ![1, 1024]) :
    GatherDims ⟨2, ![N, 1024]⟩ S4x4096x1 S4x4096x1024 where
  offsetDims := [2]
  collapsedSliceDims := [0]
  operandBatchingDims := []
  startIndicesBatchingDims := []
  startIndexMap := [0]
  indexVectorDim := 2
  sliceSizes := ![1, 1024]
  wf := wf

/-- A gathered row, entry by entry: where place (b, s) names the row `r` of the table, the gather has that row there. -/
theorem gathered_apply {N : Nat} (wf : GatherDims.WF ⟨2, ![N, 1024]⟩ S4x4096x1 S4x4096x1024 [2] [0] [] [0] [] 2 ![1, 1024])
    (table : (⟨2, ![N, 1024]⟩ : Shape).Idx → EReal) (starts : IVec S4x4096x1 32) (b : Fin 4) (s : Fin 4096) (k : Fin 1024)
    (r : Fin N) (hr : (starts (ix3 b s (0 : Fin 1))).toInt = r.val) :
    Host.gather (rowLookup N wf) table starts (ix3 b s k) = table (ix2 r k) := by
  unfold Host.gather
  refine congrArg table (funext fun a => Fin.ext ?_)
  show (rowLookup N wf).start (ix3 b s k) starts a + (rowLookup N wf).batchCoord (ix3 b s k) a
    + (rowLookup N wf).offCoord (ix3 b s k) a = _
  rw [GatherDims.batchCoord_eq_zero _ _ _ List.not_mem_nil, Nat.add_zero]
  match a with
  | ⟨0, _⟩ =>
    have hrow : (0 : Fin 2) ∈ (rowLookup N wf).startIndexMap := List.mem_singleton.mpr rfl
    have hplace : (rowLookup N wf).siIdx (ix3 b s k)
        ⟨List.idxOf (0 : Fin 2) (rowLookup N wf).startIndexMap, List.idxOf_lt_length_iff.2 hrow⟩ = ix3 b s (0 : Fin 1) := by
      funext axis
      match axis with
      | ⟨0, _⟩ => rfl
      | ⟨1, _⟩ => rfl
      | ⟨2, _⟩ => rfl
    have hstart : (rowLookup N wf).start (ix3 b s k) starts (0 : Fin 2) = r.val := by
      unfold GatherDims.start
      rw [dif_pos hrow, hplace, hr, Int.toNat_natCast]
      exact Nat.min_eq_left (Nat.le_sub_one_of_lt r.isLt)
    have hoff : (rowLookup N wf).offCoord (ix3 b s k) (0 : Fin 2) = 0 :=
      GatherDims.offCoord_eq_zero _ _ _ (fun h => ((GatherDims.mem_sKept _ _).mp h).1 (List.mem_singleton.mpr rfl))
    exact congrArg₂ (· + ·) hstart hoff
  | ⟨1, _⟩ =>
    have hcol : (1 : Fin 2) ∉ (rowLookup N wf).startIndexMap := fun h => absurd (List.mem_singleton.mp h) (show ¬ (1 : Fin 2) = 0 by decide)
    have hstart : (rowLookup N wf).start (ix3 b s k) starts (1 : Fin 2) = 0 := by
      unfold GatherDims.start
      rw [dif_neg hcol]
    have hoff : (rowLookup N wf).offCoord (ix3 b s k) (1 : Fin 2) = k.val := rfl
    exact (congrArg₂ (· + ·) hstart hoff).trans (Nat.zero_add _)

/-- Row numbers as a lookup takes them: a negative one has the number of rows added. -/
def wrapped (rows : BitVec 32) (ids : IVec S4x4096 32) : IVec S4x4096x1 32 :=
  broadcastInDim S4x4096x1 ![0, 1] bcast_S4x4096_S4x4096x1_0_1
    (select (cmpi .slt ids (broadcastInDim S4x4096 ![] bcast_S_S4x4096 (constantI S_ 32 0#32)))
      (addi ids (broadcastInDim S4x4096 ![] bcast_S_S4x4096 (constantI S_ 32 rows))) ids)

/-- At each place, whether its row number is at least 0 and at most `last`. -/
def inTable (last : BitVec 32) (starts : IVec S4x4096x1 32) : IVec S4x4096 1 :=
  Host.reduce IntOp.andi
    (andi (cmpi .sge starts (broadcastInDim S4x4096x1 ![] bcast_S_S4x4096x1 (constantI S_ 32 0#32)))
      (cmpi .sle starts (broadcastInDim S4x4096x1 ![0, 1, 2] bcast_S1x1x1_S4x4096x1_0_1_2
        (broadcastInDim S1x1x1 ![2] bcast_S1_S1x1x1_2 (constantI S1 32 last)))))
    (constantI S_ 1 1#1) reducesTo_S4x4096x1_S4x4096_d2 h_S_

/-- Gathered rows where the row number is in the table, the fill value elsewhere. -/
def filled (ok : IVec S4x4096 1) (rows : FVec Ideal S4x4096x1024 .f32) : FVec Ideal S4x4096x1024 .f32 :=
  select (broadcastInDim S4x4096x1024 ![0, 1] bcast_S4x4096_S4x4096x1024_0_1 ok) rows
    (broadcastInDim S4x4096x1024 ![] bcast_S_S4x4096x1024 (constant S_ .f32 0x7FC00000#32))

/-- A row number that is not negative is taken as it is. -/
theorem wrapped_apply (rows : BitVec 32) (ids : IVec S4x4096 32) (b : Fin 4) (s : Fin 4096) (z : Fin 1)
    (h : 0 ≤ (ids (ix2 b s)).toInt) : wrapped rows ids (ix3 b s z) = ids (ix2 b s) := by
  have hsign : IntOp.cmpi .slt (ids (ix2 b s)) 0#32 = 0#1 := by
    show BitVec.ofBool ((ids (ix2 b s)).slt 0#32) = 0#1
    rw [BitVec.slt_eq_decide, decide_eq_false (by simpa using h)]
    rfl
  pointwise [wrapped]
  rw [hsign]
  exact if_neg (by decide)

/-- Where every row number lies between 0 and `last`, every place passes the range check. -/
theorem inTable_apply (last : BitVec 32) (starts : IVec S4x4096x1 32)
    (h : ∀ b s z, 0 ≤ (starts (ix3 b s z)).toInt ∧ (starts (ix3 b s z)).toInt ≤ last.toInt) (i : S4x4096.Idx) :
    inTable last starts i = 1#1 := by
  refine Host.reduce_andi_one _ _ _ _ _ rfl fun y => ?_
  obtain ⟨b, s, z, rfl⟩ : ∃ (b : Fin 4) (s : Fin 4096) (z : Fin 1), y = ix3 b s z := ⟨y 0, y 1, y 2, eq_ix3 y⟩
  have hlow : IntOp.cmpi .sge (starts (ix3 b s z)) 0#32 = 1#1 := by
    show BitVec.ofBool ((0#32).sle (starts (ix3 b s z))) = 1#1
    rw [BitVec.sle_eq_decide, decide_eq_true (by simpa using (h b s z).1)]
    rfl
  have hhigh : IntOp.cmpi .sle (starts (ix3 b s z)) last = 1#1 := by
    show BitVec.ofBool ((starts (ix3 b s z)).sle last) = 1#1
    rw [BitVec.sle_eq_decide, decide_eq_true (h b s z).2]
    rfl
  pointwise
  rw [hlow, hhigh]
  rfl

/-- A place that passes the range check keeps its gathered row. -/
theorem filled_apply (ok : IVec S4x4096 1) (rows : FVec Ideal S4x4096x1024 .f32) (b : Fin 4) (s : Fin 4096) (k : Fin 1024)
    (h : ok (ix2 b s) = 1#1) : filled ok rows (ix3 b s k) = rows (ix3 b s k) := by
  pointwise [filled]
  rw [h]
  exact if_pos rfl

/-- A whole lookup: where every row number is not negative and at most `last`, place (b, s) holds the table's row of
    that number. -/
theorem lookup_apply {N : Nat} (wf : GatherDims.WF ⟨2, ![N, 1024]⟩ S4x4096x1 S4x4096x1024 [2] [0] [] [0] [] 2 ![1, 1024])
    (rows last : BitVec 32) (table : (⟨2, ![N, 1024]⟩ : Shape).Idx → EReal) (ids : IVec S4x4096 32)
    (h : ∀ b s, 0 ≤ (ids (ix2 b s)).toInt ∧ (ids (ix2 b s)).toInt ≤ last.toInt)
    (b : Fin 4) (s : Fin 4096) (k : Fin 1024) (r : Fin N) (hr : (ids (ix2 b s)).toInt = r.val) :
    filled (inTable last (wrapped rows ids)) (Host.gather (rowLookup N wf) table (wrapped rows ids)) (ix3 b s k)
      = table (ix2 r k) := by
  have hkeep : ∀ b s z, wrapped rows ids (ix3 b s z) = ids (ix2 b s) := fun b s z => wrapped_apply rows ids b s z (h b s).1
  refine (filled_apply _ _ b s k (inTable_apply last _ (fun b s z => ?_) _)).trans
    (gathered_apply wf table _ b s k r ?_)
  · rw [hkeep]
    exact h b s
  · rw [hkeep]
    exact hr

end Cert.LayerNorm

end
-- ==== Proof.ReferenceArray.lean ====
/-
  THE REFERENCE'S RESULT ARRAY, index by index. The reference looks up position and segment rows, adds them to the token
  rows, and normalises each row in two passes: the mean first, then the mean of the squared deviations from it.
-/
module

public import proofs.«01_k».proof.Proof.Algebra
public import proofs.«01_k».proof.Proof.Lookup
public import proofs.«01_k».proof.Proof.Gen.ReferenceIdeal.Run

@[expose] public section

set_option maxRecDepth 16384

noncomputable section

namespace Cert.LayerNorm

open Cert.ReferenceIdeal Cert.ReferenceIdeal.Gen Cert.ReferenceIdeal.Facts Idealize.ShloMosaic Idealize.ShloMosaic.TcCoe
open Idealize.SL.Sem

/-- The number of each position, for every batch member. -/
def positions : IVec S4x4096 32 :=
  broadcastInDim S4x4096 ![0, 1] bcast_S1x4096_S4x4096_0_1
    (broadcastInDim S1x4096 ![1] bcast_S4096_S1x4096_1 (iotaInDim S4096 32 0))

/-- The position rows, looked up by position number. -/
def positionRows (pos : FVec Ideal S4096x1024 .f32) : FVec Ideal S4x4096x1024 .f32 :=
  filled (inTable 4095#32 (wrapped 4096#32 positions))
    (Host.gather gather_S4096x1024_S4x4096x1_S4x4096x1024_2_0_n_n_0_2_11024 pos (wrapped 4096#32 positions))

/-- The segment rows, looked up by segment number. -/
def segmentRows (mask : IVec S4x4096 32) (seg : FVec Ideal S2x1024 .f32) : FVec Ideal S4x4096x1024 .f32 :=
  filled (inTable 1#32 (wrapped 2#32 mask))
    (Host.gather gather_S2x1024_S4x4096x1_S4x4096x1024_2_0_n_n_0_2_11024 seg (wrapped 2#32 mask))

/-- One value per row, given to every entry of the row. -/
def along (v : FVec Ideal S4x4096x1 .f32) : FVec Ideal S4x4096x1024 .f32 :=
  broadcastInDim S4x4096x1024 ![0, 1, 2] bcast_S4x4096x1_S4x4096x1024_0_1_2 v

/-- One value given to every row. -/
def everyRow (v : FVec Ideal S_ .f32) : FVec Ideal S4x4096x1 .f32 := broadcastInDim S4x4096x1 ![] bcast_S_S4x4096x1 v

/-- The sum of each row. -/
def rowSums (e : FVec Ideal S4x4096x1024 .f32) : FVec Ideal S4x4096x1 .f32 :=
  broadcastInDim S4x4096x1 ![0, 1] bcast_S4x4096_S4x4096x1_0_1
    (Host.reduceAdd e (constant S_ .f32 0x00000000#32) reducesTo_S4x4096x1024_S4x4096_d2 h_S_)

/-- The mean of each row. -/
def rowMeans (e : FVec Ideal S4x4096x1024 .f32) : FVec Ideal S4x4096x1 .f32 :=
  Host.divf (rowSums e) (everyRow (constant S_ .f32 0x44800000#32))

/-- The number the sum of squared deviations is divided by: the length of a row less zero. -/
def divisor : FVec Ideal S_ .f32 := subf (constant S_ .f32 0x44800000#32) (sitofp .f32 (constantI S_ 32 0#32))

/-- The variance of each row, with the fill value should the divisor not be positive. -/
def rowVars (e : FVec Ideal S4x4096x1024 .f32) : FVec Ideal S4x4096x1 .f32 :=
  select (broadcastInDim S4x4096x1 ![] bcast_S_S4x4096x1 (cmpf .ogt divisor (constant S_ .f32 0x00000000#32)))
    (Host.divf (rowSums (mulf (subf e (along (rowMeans e))) (subf e (along (rowMeans e))))) (everyRow divisor))
    (everyRow (id (constant S_ .f32 0x7FC00000#32)))

/-- One value per column, given to every row. -/
def columns (v : FVec Ideal S1024 .f32) : FVec Ideal S4x4096x1024 .f32 :=
  broadcastInDim S4x4096x1024 ![0, 1, 2] bcast_S1x1x1024_S4x4096x1024_0_1_2
    (broadcastInDim S1x1x1024 ![2] bcast_S1024_S1x1x1024_2 v)

/-- Rows normalised, scaled and shifted. -/
def normalised (e : FVec Ideal S4x4096x1024 .f32) (gamma beta : FVec Ideal S1024 .f32) : FVec Ideal S4x4096x1024 .f32 :=
  addf (mulf (Host.divf (subf e (along (rowMeans e)))
      (along (Host.sqrt (addf (rowVars e) (everyRow (constant S_ .f32 0x3727C5AC#32)))))) (columns gamma)) (columns beta)

/-- The reference's result is the normalised sum of the token rows and the looked-up position and segment rows. -/
theorem result_eq (m : (ℓ : Loc nD τ sig) → Buf (Elt Ideal) ℓ) (c : Dev nD) :
    Value.res_main_v24 m c
      = normalised (addf (addf (m ((c : Thread nD τ).loc main_arg0)) (positionRows (m ((c : Thread nD τ).loc main_arg2))))
            (segmentRows (m ((c : Thread nD τ).loc main_arg1)) (m ((c : Thread nD τ).loc main_arg3))))
          (m ((c : Thread nD τ).loc main_arg4)) (m ((c : Thread nD τ).loc main_arg5)) := rfl

/-- The sum of a row, at any index of its place. -/
theorem rowSums_apply (e : FVec Ideal S4x4096x1024 .f32) (b : Fin 4) (s : Fin 4096) (z : Fin 1) :
    rowSums e (ix3 b s z) = ∑ k : Fin 1024, e (ix3 b s k) := by
  pointwise [rowSums]

/-- The mean of a row. -/
theorem rowMeans_apply (e : FVec Ideal S4x4096x1024 .f32) (b : Fin 4) (s : Fin 4096) (z : Fin 1) :
    rowMeans e (ix3 b s z) = divMean (fun k => e (ix3 b s k)) := by
  have h := rowSums_apply e b s z
  pointwise [rowMeans, everyRow]
  rw [h]
  rfl

/-- The deviation of an entry from the mean of its row. -/
theorem deviation_apply (e : FVec Ideal S4x4096x1024 .f32) (b : Fin 4) (s : Fin 4096) (k : Fin 1024) :
    subf e (along (rowMeans e)) (ix3 b s k) = e (ix3 b s k) - divMean (fun k => e (ix3 b s k)) := by
  have h := fun z => rowMeans_apply e b s z
  pointwise [along]
  rw [h]

/-- The divisor is the length of a row. -/
theorem divisor_apply (i : S_.Idx) : divisor i = length := by
  have hzero : (FloatOps.sitofp .f32 0#32 : Ideal .f32) = (0 : EReal) := by
    show (((0#32 : BitVec 32).toInt : ℝ) : EReal) = 0
    simp
  pointwise [divisor]
  rw [hzero]
  exact sub_zero length

/-- The length of a row is positive. -/
theorem length_pos : (0 : EReal) < length := by
  rw [length_eq]
  exact EReal.coe_pos.mpr (by norm_num)

/-- The variance of a row. -/
theorem rowVars_apply (e : FVec Ideal S4x4096x1024 .f32) (b : Fin 4) (s : Fin 4096) (z : Fin 1) :
    rowVars e (ix3 b s z) = twoPassVar (fun k => e (ix3 b s k)) := by
  have hsum := rowSums_apply (mulf (subf e (along (rowMeans e))) (subf e (along (rowMeans e)))) b s z
  have hdiv := divisor_apply
  pointwise [rowVars, everyRow]
  rw [hdiv, if_pos length_pos, hsum]
  refine congrArg (fun t => Ideal.div t length) (Finset.sum_congr rfl fun k _ => ?_)
  exact congrArg₂ (· * ·) (deviation_apply e b s k) (deviation_apply e b s k)

/-- An entry of a normalised row: two passes over the row, scaled and shifted by its column's numbers. -/
theorem normalised_apply (e : FVec Ideal S4x4096x1024 .f32) (gamma beta : FVec Ideal S1024 .f32)
    (b : Fin 4) (s : Fin 4096) (l : Fin 1024) :
    normalised e gamma beta (ix3 b s l) = twoPass (fun k => e (ix3 b s k)) l * gamma (ix1 l) + beta (ix1 l) := by
  have hmean := fun z => rowMeans_apply e b s z
  have hvar := fun z => rowVars_apply e b s z
  pointwise [normalised, along, everyRow, columns]
  rw [hmean, hvar]
  rfl

/-- The position number at place (b, s) is `s`. -/
theorem positions_apply (b : Fin 4) (s : Fin 4096) : (positions (ix2 b s)).toInt = s.val := by
  have h : positions (ix2 b s) = BitVec.ofNat 32 s.val := by pointwise [positions]
  have hs := s.isLt
  have hsize : (BitVec.ofNat 32 s.val).toNat = s.val := (BitVec.toNat_ofNat s.val 32).trans (Nat.mod_eq_of_lt (by omega))
  rw [h, BitVec.toInt_eq_toNat_of_lt (by omega), hsize]

/-- The position row at place (b, s) is row `s` of the position table. -/
theorem positionRows_apply (pos : FVec Ideal S4096x1024 .f32) (b : Fin 4) (s : Fin 4096) (k : Fin 1024) :
    positionRows pos (ix3 b s k) = pos (ix2 s k) := by
  refine lookup_apply (N := 4096) _ 4096#32 4095#32 pos positions (fun b s => ?_) b s k s (positions_apply b s)
  have hlast : (4095#32 : BitVec 32).toInt = 4095 := rfl
  have hs := s.isLt
  rw [positions_apply, hlast]
  omega

/-- The segment row at place (b, s), every segment number being 0 or 1: row 1 of the segment table where the number is
    not zero, row 0 where it is. -/
theorem segmentRows_apply (mask : IVec S4x4096 32) (seg : FVec Ideal S2x1024 .f32)
    (h : ∀ b s, mask (ix2 b s) = 0#32 ∨ mask (ix2 b s) = 1#32) (b : Fin 4) (s : Fin 4096) (k : Fin 1024) :
    segmentRows mask seg (ix3 b s k)
      = Scalar.select (IntOp.cmpi .ne (mask (ix2 b s)) 0#32) (seg (ix2 1 k)) (seg (ix2 0 k)) := by
  have hrange : ∀ b s, 0 ≤ (mask (ix2 b s)).toInt ∧ (mask (ix2 b s)).toInt ≤ (1#32 : BitVec 32).toInt := fun b s => by
    rcases h b s with e | e <;> rw [e] <;> decide
  rcases h b s with e | e
  · refine (lookup_apply (N := 2) _ 2#32 1#32 seg mask hrange b s k 0 (by rw [e]; rfl)).trans ?_
    rw [e]
    rfl
  · refine (lookup_apply (N := 2) _ 2#32 1#32 seg mask hrange b s k 1 (by rw [e]; rfl)).trans ?_
    rw [e]
    rfl

end Cert.LayerNorm

end
-- ==== Proof.Precondition.lean ====
/-
  THE PRECONDITION, READ AT AN INDEX. It says that the absolute value of every token, position and segment entry is less
  than infinity, and that every segment number is at least 0 and at most 1. So the entries are real numbers and the
  segment numbers are 0 or 1.
-/
module

public import proofs.«01_k».proof.Defs
public import proofs.«01_k».proof.Proof.Gen.Pre_real_and_in_table
public import Idealize.ShloMosaic.Lib.Pointwise

@[expose] public section

noncomputable section

namespace Cert.LayerNorm

open Cert.Pre_real_and_in_table Cert.Pre_real_and_in_table.Gen Cert.Pre_real_and_in_table.Facts Idealize.ShloMosaic

/-- An extended real whose absolute value is less than some bound is a real number. -/
theorem real_of_abs_lt (a bound : EReal)
    (h : BitVec.ofBool (decide (FloatOps.absf (F := Ideal) (φ := .f32) a < bound)) = 1#1) : ∃ r : ℝ, a = (r : EReal) := by
  have hlt : max a (-a) < bound := by
    by_contra hn
    have hbit : BitVec.ofBool (decide (FloatOps.absf (F := Ideal) (φ := .f32) a < bound)) = 0#1 :=
      congrArg BitVec.ofBool (decide_eq_false hn)
    rw [hbit] at h
    exact absurd h (by decide)
  have htop : a ≠ ⊤ := ((le_max_left a (-a)).trans_lt (hlt.trans_le le_top)).ne
  have hbot : a ≠ ⊥ := fun e => by
    have hneg : -a ≠ ⊤ := ((le_max_right a (-a)).trans_lt (hlt.trans_le le_top)).ne
    rw [e] at hneg
    exact hneg EReal.neg_bot
  exact ⟨a.toReal, (EReal.coe_toReal htop hbot).symm⟩

/-- A number at least 0 and at most 1, by the signed comparisons, is 0 or 1. -/
theorem zero_or_one (v : BitVec 32) (hlow : IntOp.cmpi .sge v 0#32 = 1#1) (hhigh : IntOp.cmpi .sle v 1#32 = 1#1) :
    v = 0#32 ∨ v = 1#32 := by
  have hbit : ∀ b : Bool, BitVec.ofBool b = 1#1 → b = true := by decide
  have h0 : (0#32 : BitVec 32).toInt ≤ v.toInt := by
    have h : (0#32 : BitVec 32).sle v = true := hbit _ hlow
    rw [BitVec.sle_eq_decide] at h
    exact of_decide_eq_true h
  have h1 : v.toInt ≤ (1#32 : BitVec 32).toInt := by
    have h : v.sle 1#32 = true := hbit _ hhigh
    rw [BitVec.sle_eq_decide] at h
    exact of_decide_eq_true h
  have e0 : (0#32 : BitVec 32).toInt = 0 := rfl
  have e1 : (1#32 : BitVec 32).toInt = 1 := rfl
  rcases (show v.toInt = 0 ∨ v.toInt = 1 by omega) with h | h
  · exact Or.inl (BitVec.eq_of_toInt_eq (h.trans e0.symm))
  · exact Or.inr (BitVec.eq_of_toInt_eq (h.trans e1.symm))

variable (x : FVec Ideal S4x4096x1024 .f32) (mask : IVec S4x4096 32) (pos : FVec Ideal S4096x1024 .f32)
  (seg : FVec Ideal S2x1024 .f32) (gamma beta : FVec Ideal S1024 .f32)

/-- Under the precondition every token entry is a real number. -/
theorem token_real (h : (fn x mask pos seg gamma beta).1 = fun _ => 1#1) (i : S4x4096x1024.Idx) :
    ∃ r : ℝ, x i = (r : EReal) := by
  have hi := congrFun h i
  revert hi
  pointwise [fn]
  exact real_of_abs_lt _ _

/-- Under the precondition every position entry is a real number. -/
theorem position_real (h : (fn x mask pos seg gamma beta).2.1 = fun _ => 1#1) (i : S4096x1024.Idx) :
    ∃ r : ℝ, pos i = (r : EReal) := by
  have hi := congrFun h i
  revert hi
  pointwise [fn]
  exact real_of_abs_lt _ _

/-- Under the precondition every segment entry is a real number. -/
theorem segment_real (h : (fn x mask pos seg gamma beta).2.2.1 = fun _ => 1#1) (i : S2x1024.Idx) :
    ∃ r : ℝ, seg i = (r : EReal) := by
  have hi := congrFun h i
  revert hi
  pointwise [fn]
  exact real_of_abs_lt _ _

/-- Under the precondition every segment number is 0 or 1. -/
theorem segment_number (hlow : (fn x mask pos seg gamma beta).2.2.2.1 = fun _ => 1#1)
    (hhigh : (fn x mask pos seg gamma beta).2.2.2.2 = fun _ => 1#1) (i : S4x4096.Idx) : mask i = 0#32 ∨ mask i = 1#32 := by
  have hl := congrFun hlow i
  have hh := congrFun hhigh i
  revert hl hh
  pointwise [fn]
  exact zero_or_one (mask i)

end Cert.LayerNorm

end
-- ==== Proof.Agreement.lean ====
/-
  THE TWO RESULT ARRAYS AGREE. Under the precondition the rows the reference looks up are the rows the kernel picks, each
  row to be normalised is a row of real numbers, and on such a row one pass and two passes give the same numbers.
-/
module

public import proofs.«01_k».proof.Proof.KernelArray
public import proofs.«01_k».proof.Proof.ReferenceArray
public import proofs.«01_k».proof.Proof.Precondition

@[expose] public section

noncomputable section

namespace Cert.LayerNorm

open Idealize.ShloMosaic Idealize.ShloMosaic.TcCoe Idealize.SL.Sem
open Cert.KernelIdeal (S4x4096x1024 S4x4096 S4096x1024 S2x1024 S1024)

/-- An entry of a row to be normalised is a real number when the entries it is the sum of are. -/
theorem embedded_real (x : Vec Ideal S4x4096x1024 .f32) (mask : Vec Ideal S4x4096 .i32) (pos : Vec Ideal S4096x1024 .f32)
    (seg : Vec Ideal S2x1024 .f32) (hx : ∀ i, ∃ r : ℝ, x i = (r : EReal)) (hpos : ∀ i, ∃ r : ℝ, pos i = (r : EReal))
    (hseg : ∀ i, ∃ r : ℝ, seg i = (r : EReal)) (b : Fin 4) (s : Fin 4096) (k : Fin 1024) :
    ∃ r : ℝ, embedded x mask pos seg b s k = (r : EReal) := by
  obtain ⟨t, ht⟩ := hx (ix3 b s k)
  obtain ⟨p, hp⟩ := hpos (ix2 s k)
  have hpick : ∃ r : ℝ, Scalar.select (IntOp.cmpi .ne (mask (ix2 b s)) 0#32) (seg (ix2 1 k)) (seg (ix2 0 k)) = (r : EReal) := by
    unfold Scalar.select
    split
    · exact hseg _
    · exact hseg _
  obtain ⟨g, hg⟩ := hpick
  refine ⟨t + p + g, ?_⟩
  rw [embedded, ht, hp, hg, EReal.coe_add, EReal.coe_add]

/-- The reference's array is the kernel's, entry by entry, for real entries and segment numbers 0 and 1. -/
theorem normalised_eq (x : Vec Ideal S4x4096x1024 .f32) (mask : Vec Ideal S4x4096 .i32) (pos : Vec Ideal S4096x1024 .f32)
    (seg : Vec Ideal S2x1024 .f32) (gamma beta : Vec Ideal S1024 .f32) (hx : ∀ i, ∃ r : ℝ, x i = (r : EReal))
    (hpos : ∀ i, ∃ r : ℝ, pos i = (r : EReal)) (hseg : ∀ i, ∃ r : ℝ, seg i = (r : EReal))
    (hmask : ∀ i, mask i = 0#32 ∨ mask i = 1#32) (b : Fin 4) (s : Fin 4096) (l : Fin 1024) :
    normalised (addf (addf x (positionRows pos)) (segmentRows mask seg)) gamma beta (ix3 b s l)
      = onePass (embedded x mask pos seg b s) l * gamma (ix1 l) + beta (ix1 l) := by
  have hrow : (fun k => addf (F := Ideal) (addf x (positionRows pos)) (segmentRows mask seg) (ix3 b s k))
      = embedded x mask pos seg b s := by
    funext k
    exact congrArg₂ (· + ·) (congrArg (x (ix3 b s k) + ·) (positionRows_apply pos b s k))
      (segmentRows_apply mask seg (fun b s => hmask (ix2 b s)) b s k)
  rw [normalised_apply, hrow, onePass_eq_twoPass_of_real (fun k => embedded_real x mask pos seg hx hpos hseg b s k)]

/-- Under the precondition, from memories that agree on the arguments, the reference's result array is the kernel's. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_real_and_in_table m) (c : Dev Cert.KernelIdeal.nD)
    (h0 : m' ((c : Thread Cert.ReferenceIdeal.nD Cert.ReferenceIdeal.τ).loc Cert.ReferenceIdeal.main_arg0)
      = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1)
      = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2)
      = m ((c : Thread Cert.KernelIdeal.nD Cert.KernelIdeal.τ).loc Cert.KernelIdeal.main_arg2))
    (h3 : m' ((c : Thread Cert.ReferenceIdeal.nD Cert.ReferenceIdeal.τ).loc Cert.ReferenceIdeal.main_arg3)
      = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4)
      = m ((c : Thread Cert.KernelIdeal.nD Cert.KernelIdeal.τ).loc Cert.KernelIdeal.main_arg4))
    (h5 : m' ((c : Thread Cert.ReferenceIdeal.nD Cert.ReferenceIdeal.τ).loc Cert.ReferenceIdeal.main_arg5)
      = m ((c : Thread Cert.KernelIdeal.nD Cert.KernelIdeal.τ).loc Cert.KernelIdeal.main_arg5)) :
    Cert.ReferenceIdeal.Value.res_main_v24 m' c = kernelArray m c := by
  obtain ⟨px, ppos, pseg, plow, phigh⟩ := hpre c
  rw [result_eq m' c, h0, h1, h2, h3, h4, h5]
  funext i
  obtain ⟨b, s, l, rfl⟩ : ∃ (b : Fin 4) (s : Fin 4096) (l : Fin 1024), i = ix3 b s l := ⟨i 0, i 1, i 2, eq_ix3 i⟩
  exact normalised_eq _ _ _ _ _ _ (token_real _ _ _ _ _ _ px) (position_real _ _ _ _ _ _ ppos)
    (segment_real _ _ _ _ _ _ pseg) (segment_number _ _ _ _ _ _ plow phigh) b s l

end Cert.LayerNorm

end
-- ==== Proof.lean ====
/-
  THE CLAIMS ABOUT THE KERNEL. Kernel and reference run to their end, leave their arguments unchanged and every counter
  at zero, and under the precondition their result arrays are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_real_and_in_table
public import proofs.«01_k».proof.Proof.Agreement
public import Idealize.ShloMosaic.Lib.Quiescent
public import Idealize.ShloMosaic.Adequacy
public import Idealize.ShloMosaic.Init

@[expose] public section

noncomputable section

namespace Cert.Proof

open Idealize.ShloMosaic Idealize.SL.Sem

/-- The reference, from any memory, runs to its end with its arguments unchanged and every counter at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition, kernel and reference started on the same arguments end with the same result array. -/
theorem same_result : Cert.algebraic_KernelIdeal_ReferenceIdeal_pre_real_and_in_table := by
  intro m ρ m' ρ' hpre hagree
  refine ⟨fun c => LayerNorm.kernelArray m c, LayerNorm.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  exact LayerNorm.arrays_eq m m' hpre c h0 h1 h2 h3 h4 h5

/-- Every claim: the kernel's run as written and over the extended reals, the reference's run, each also under the
    precondition, that the two readings of the kernel are one text, and that kernel and reference agree. -/
theorem claim : Cert.Claim :=
  ⟨Cert.Kernel.Gen.facts, Cert.KernelIdeal.Gen.facts, Cert.ReferenceIdeal.Gen.facts, Cert.Pre_real_and_in_table.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    same_result⟩

end Cert.Proof

end
